-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x32768x2048 : Shape := ⟨3, ![2, 32768, 2048]⟩
abbrev S16 : Shape := ⟨1, ![16]⟩
abbrev S2x32768x512 : Shape := ⟨3, ![2, 32768, 512]⟩
abbrev S4 : Shape := ⟨1, ![4]⟩
abbrev S4x4 : Shape := ⟨2, ![4, 4]⟩
abbrev S4x1 : Shape := ⟨2, ![4, 1]⟩
abbrev S_ : Shape := ⟨0, ![]⟩
abbrev S4x4x64 : Shape := ⟨3, ![4, 4, 64]⟩
abbrev S4x256 : Shape := ⟨2, ![4, 256]⟩
abbrev S4x1x256 : Shape := ⟨3, ![4, 1, 256]⟩
abbrev S4x1x1 : Shape := ⟨3, ![4, 1, 1]⟩
abbrev S1x1024x512 : Shape := ⟨3, ![1, 1024, 512]⟩
abbrev S1x1024x128 : Shape := ⟨3, ![1, 1024, 128]⟩
abbrev S1x1x256 : Shape := ⟨3, ![1, 1, 256]⟩
abbrev S2048x128 : Shape := ⟨2, ![2048, 128]⟩
abbrev S128x2048 : Shape := ⟨2, ![128, 2048]⟩
abbrev S1024x128 : Shape := ⟨2, ![1024, 128]⟩
abbrev S128x1024 : Shape := ⟨2, ![128, 1024]⟩
abbrev S1x256 : Shape := ⟨2, ![1, 256]⟩
abbrev S96x256 : Shape := ⟨2, ![96, 256]⟩
abbrev S64x256 : Shape := ⟨2, ![64, 256]⟩
abbrev S1088x256 : Shape := ⟨2, ![1088, 256]⟩
abbrev S1x64x128 : Shape := ⟨3, ![1, 64, 128]⟩
abbrev S64x128 : Shape := ⟨2, ![64, 128]⟩
abbrev S256x128 : Shape := ⟨2, ![256, 128]⟩
abbrev S1088x128 : Shape := ⟨2, ![1088, 128]⟩
abbrev S928x256 : Shape := ⟨2, ![928, 256]⟩
abbrev S256 : Shape := ⟨1, ![256]⟩
abbrev S128x1088 : Shape := ⟨2, ![128, 1088]⟩
abbrev S128x256 : Shape := ⟨2, ![128, 256]⟩

abbrev nBuf : Space → Nat
  | .hbm => 19
  | .vmem => 14
  | .smem => 0
  | _ => 0

abbrev bufTy : (tb : Table) → Fin (tcTables nBuf tb) → BufTy
  | .hbm, ⟨0, _⟩ => ⟨S2x32768x2048, .fp8e4m3⟩
  | .hbm, ⟨1, _⟩ => ⟨S16, .f32⟩
  | .hbm, ⟨2, _⟩ => ⟨S2x32768x512, .fp8e4m3⟩
  | .hbm, ⟨3, _⟩ => ⟨S4, .f32⟩
  | .hbm, ⟨4, _⟩ => ⟨S2x32768x512, .fp8e4m3⟩
  | .hbm, ⟨5, _⟩ => ⟨S4, .f32⟩
  | .hbm, ⟨6, _⟩ => ⟨S4x4, .f32⟩
  | .hbm, ⟨7, _⟩ => ⟨S4x1, .f32⟩
  | .hbm, ⟨8, _⟩ => ⟨S4x4, .f32⟩
  | .hbm, ⟨9, _⟩ => ⟨S4x4, .f32⟩
  | .hbm, ⟨10, _⟩ => ⟨S_, .f32⟩
  | .hbm, ⟨11, _⟩ => ⟨S4x4, .f32⟩
  | .hbm, ⟨12, _⟩ => ⟨S4x4, .f32⟩
  | .hbm, ⟨13, _⟩ => ⟨S4x4x64, .f32⟩
  | .hbm, ⟨14, _⟩ => ⟨S4x256, .f32⟩
  | .hbm, ⟨15, _⟩ => ⟨S4x1x256, .f32⟩
  | .hbm, ⟨16, _⟩ => ⟨S4x1x1, .f32⟩
  | .hbm, ⟨17, _⟩ => ⟨S4x1x256, .f32⟩
  | .hbm, ⟨18, _⟩ => ⟨S2x32768x2048, .bf16⟩
  | .local _ .vmem, ⟨0, _⟩ => ⟨S1x1024x512, .fp8e4m3⟩
  | .local _ .vmem, ⟨1, _⟩ => ⟨S1x1024x512, .fp8e4m3⟩
  | .local _ .vmem, ⟨2, _⟩ => ⟨S1x1024x128, .fp8e4m3⟩
  | .local _ .vmem, ⟨3, _⟩ => ⟨S1x1024x128, .fp8e4m3⟩
  | .local _ .vmem, ⟨4, _⟩ => ⟨S1x1024x128, .fp8e4m3⟩
  | .local _ .vmem, ⟨5, _⟩ => ⟨S1x1024x128, .fp8e4m3⟩
  | .local _ .vmem, ⟨6, _⟩ => ⟨S1x1x256, .f32⟩
  | .local _ .vmem, ⟨7, _⟩ => ⟨S1x1x256, .f32⟩
  | .local _ .vmem, ⟨8, _⟩ => ⟨S1x1x256, .f32⟩
  | .local _ .vmem, ⟨9, _⟩ => ⟨S1x1x256, .f32⟩
  | .local _ .vmem, ⟨10, _⟩ => ⟨S1x1024x512, .bf16⟩
  | .local _ .vmem, ⟨11, _⟩ => ⟨S1x1024x512, .bf16⟩
  | .local _ .vmem, ⟨12, _⟩ => ⟨S2048x128, .fp8e4m3⟩
  | .local _ .vmem, ⟨13, _⟩ => ⟨S128x2048, .bf16⟩
  | _, _ => ⟨S2x32768x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S2x32768x2048 : Shape := ⟨3, ![2, 32768, 2048]⟩
abbrev S16 : Shape := ⟨1, ![16]⟩
abbrev S2x32768x512 : Shape := ⟨3, ![2, 32768, 512]⟩
abbrev S4 : Shape := ⟨1, ![4]⟩
abbrev S4x4 : Shape := ⟨2, ![4, 4]⟩
abbrev S4x1 : Shape := ⟨2, ![4, 1]⟩
abbrev S_ : Shape := ⟨0, ![]⟩
abbrev S1x16 : Shape := ⟨2, ![1, 16]⟩
abbrev S2x16 : Shape := ⟨2, ![2, 16]⟩
abbrev S32x1x1 : Shape := ⟨3, ![32, 1, 1]⟩
abbrev S1x4x1 : Shape := ⟨3, ![1, 4, 1]⟩
abbrev S2x4x4 : Shape := ⟨3, ![2, 4, 4]⟩
abbrev S2x32768x16x128 : Shape := ⟨4, ![2, 32768, 16, 128]⟩
abbrev S2x16x32768x128 : Shape := ⟨4, ![2, 16, 32768, 128]⟩
abbrev S32x32768x128 : Shape := ⟨3, ![32, 32768, 128]⟩
abbrev S2x32768x4x128 : Shape := ⟨4, ![2, 32768, 4, 128]⟩
abbrev S2x4x32768x128 : Shape := ⟨4, ![2, 4, 32768, 128]⟩
abbrev S2x4x1x32768x128 : Shape := ⟨5, ![2, 4, 1, 32768, 128]⟩
abbrev S2x4x4x32768x128 : Shape := ⟨5, ![2, 4, 4, 32768, 128]⟩
abbrev S32x32768x32768 : Shape := ⟨3, ![32, 32768, 32768]⟩
abbrev S32x32768 : Shape := ⟨2, ![32, 32768]⟩
abbrev S32x32768x1 : Shape := ⟨3, ![32, 32768, 1]⟩

abbrev nBuf : Space → Nat
  | .hbm => 20
  | .vmem => 6
  | .smem => 0
  | _ => 0

abbrev bufTy : (tb : Table) → Fin (tcTables nBuf tb) → BufTy
  | .hbm, ⟨0, _⟩ => ⟨S2x32768x2048, .fp8e4m3⟩
  | .hbm, ⟨1, _⟩ => ⟨S16, .f32⟩
  | .hbm, ⟨2, _⟩ => ⟨S2x32768x512, .fp8e4m3⟩
  | .hbm, ⟨3, _⟩ => ⟨S4, .f32⟩
  | .hbm, ⟨4, _⟩ => ⟨S2x32768x512, .fp8e4m3⟩
  | .hbm, ⟨5, _⟩ => ⟨S4, .f32⟩
  | .hbm, ⟨6, _⟩ => ⟨S4x4, .f32⟩
  | .hbm, ⟨7, _⟩ => ⟨S4x1, .f32⟩
  | .hbm, ⟨8, _⟩ => ⟨S4x4, .f32⟩
  | .hbm, ⟨9, _⟩ => ⟨S4x4, .f32⟩
  | .hbm, ⟨10, _⟩ => ⟨S_, .f32⟩
  | .hbm, ⟨11, _⟩ => ⟨S4x4, .f32⟩
  | .hbm, ⟨12, _⟩ => ⟨S4x4, .f32⟩
  | .hbm, ⟨13, _⟩ => ⟨S1x16, .f32⟩
  | .hbm, ⟨14, _⟩ => ⟨S2x16, .f32⟩
  | .hbm, ⟨15, _⟩ => ⟨S32x1x1, .f32⟩
  | .hbm, ⟨16, _⟩ => ⟨S1x4x1, .f32⟩
  | .hbm, ⟨17, _⟩ => ⟨S2x4x4, .f32⟩
  | .hbm, ⟨18, _⟩ => ⟨S32x1x1, .f32⟩
  | .hbm, ⟨19, _⟩ => ⟨S2x32768x2048, .bf16⟩
  | .local _ .vmem, ⟨0, _⟩ => ⟨S2x32768x2048, .fp8e4m3⟩
  | .local _ .vmem, ⟨1, _⟩ => ⟨S2x32768x512, .fp8e4m3⟩
  | .local _ .vmem, ⟨2, _⟩ => ⟨S2x32768x512, .fp8e4m3⟩
  | .local _ .vmem, ⟨3, _⟩ => ⟨S32x1x1, .f32⟩
  | .local _ .vmem, ⟨4, _⟩ => ⟨S32x1x1, .f32⟩
  | .local _ .vmem, ⟨5, _⟩ => ⟨S2x32768x2048, .bf16⟩
  | _, _ => ⟨S2x32768x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x32768x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x32768x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x32768x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x32768x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Softmax.lean ====
/- The mathematics of the claim, about extended reals alone: a row of a softmax attention computed over any list of
   keys that contains the visible ones, with powers of two and one late division, is the row computed over all keys
   with the exponential function and normalised weights. -/
module

public import Idealize.ShloMosaic.Lib.Pointwise

@[expose] public section

noncomputable section

namespace Cert.Softmax

open Idealize.ShloMosaic

/-- The number `1 / log 2`, as an extended real. -/
abbrev log2e : EReal := (((Real.log 2)⁻¹ : ℝ) : EReal)

/-- `1 / log 2` is a positive real number. -/
theorem log2e_pos : (0 : ℝ) < (Real.log 2)⁻¹ := inv_pos.mpr (Real.log_pos (by norm_num))

/-- A power of two of `y / log 2` is the exponential of `y`, at the infinities too. -/
theorem exp2_mul_log2e (y : EReal) : Ideal.exp2 (y * log2e) = Ideal.exp y := by
  induction y with
  | bot => rw [EReal.bot_mul_coe_of_pos log2e_pos]; rfl
  | top => rw [EReal.top_mul_coe_of_pos log2e_pos]; rfl
  | coe r =>
    rw [← EReal.coe_mul, Ideal.exp2_coe, Ideal.exp_coe]
    congr 1
    have h2 : Real.log 2 ≠ 0 := ne_of_gt (Real.log_pos (by norm_num))
    show Real.rpow 2 _ = _
    rw [Real.rpow_eq_pow, Real.rpow_def_of_pos (by norm_num)]
    congr 1
    field_simp

/-- Scaling two extended reals by `1 / log 2` scales their difference. -/
theorem sub_mul_log2e (a b : EReal) : a * log2e - b * log2e = (a - b) * log2e := by
  induction a with
  | bot => rw [EReal.bot_mul_coe_of_pos log2e_pos, EReal.bot_sub, EReal.bot_sub, EReal.bot_mul_coe_of_pos log2e_pos]
  | top =>
    induction b with
    | bot => rw [EReal.bot_mul_coe_of_pos log2e_pos, EReal.top_mul_coe_of_pos log2e_pos, EReal.top_sub_bot, EReal.top_mul_coe_of_pos log2e_pos]
    | top => rw [EReal.top_mul_coe_of_pos log2e_pos, EReal.sub_top, EReal.bot_mul_coe_of_pos log2e_pos]
    | coe s =>
      rw [← EReal.coe_mul, EReal.top_mul_coe_of_pos log2e_pos, EReal.top_sub_coe, EReal.top_sub_coe, EReal.top_mul_coe_of_pos log2e_pos]
  | coe r =>
    induction b with
    | bot => rw [EReal.bot_mul_coe_of_pos log2e_pos, ← EReal.coe_mul, EReal.coe_sub_bot, EReal.coe_sub_bot, EReal.top_mul_coe_of_pos log2e_pos]
    | top => rw [EReal.top_mul_coe_of_pos log2e_pos, EReal.sub_top, EReal.sub_top, EReal.bot_mul_coe_of_pos log2e_pos]
    | coe s =>
      rw [← EReal.coe_mul, ← EReal.coe_mul, ← EReal.coe_sub, ← EReal.coe_sub, ← EReal.coe_mul, sub_mul]

/-- A nonnegative real number distributes over a finite sum of extended reals. -/
theorem coe_mul_sum {ι : Type*} (s : Finset ι) (k : ℝ) (hk : 0 ≤ k) (f : ι → EReal) :
    (k : EReal) * ∑ i ∈ s, f i = ∑ i ∈ s, (k : EReal) * f i := by
  classical
  induction s using Finset.induction_on with
  | empty => simp
  | insert a s ha ih =>
    rw [Finset.sum_insert ha, Finset.sum_insert ha, ← ih]
    exact EReal.left_distrib_of_nonneg_of_ne_top (EReal.coe_nonneg.mpr hk) (EReal.coe_ne_top k) _ _

section

variable {ι κ : Type*} [Fintype ι] [Fintype κ] [DecidableEq ι] [DecidableEq κ]

/-- A sum over rows that are zero outside the visible ones is the sum over keys that are zero outside the visible
    ones, when the visible rows and the visible keys correspond one to one. -/
theorem sum_visible (visK : κ → Prop) (vis : ι → Prop) [DecidablePred visK] [DecidablePred vis] (pos : κ → ι)
    (hto : ∀ r, visK r → vis (pos r)) (hinj : ∀ r r', visK r → visK r' → pos r = pos r' → r = r')
    (hsurj : ∀ j, vis j → ∃ r, visK r ∧ pos r = j) (f : κ → EReal) (g : ι → EReal)
    (hf : ∀ r, ¬visK r → f r = 0) (hg : ∀ j, ¬vis j → g j = 0) (hfg : ∀ r, visK r → f r = g (pos r)) :
    ∑ r, f r = ∑ j, g j := by
  rw [← Finset.sum_filter_of_ne (s := Finset.univ) (p := visK) (fun r _ h => by_contra fun hv => h (hf r hv)),
    ← Finset.sum_filter_of_ne (s := Finset.univ) (p := vis) (fun j _ h => by_contra fun hv => h (hg j hv))]
  refine Finset.sum_bij (fun r _ => pos r) ?_ ?_ ?_ ?_
  · intro r hr; simp only [Finset.mem_filter, Finset.mem_univ, true_and] at hr ⊢; exact hto r hr
  · intro r hr r' hr' h; simp only [Finset.mem_filter, Finset.mem_univ, true_and] at hr hr'; exact hinj r r' hr hr' h
  · intro j hj; simp only [Finset.mem_filter, Finset.mem_univ, true_and] at hj
    obtain ⟨r, hr, rfl⟩ := hsurj j hj
    exact ⟨r, by simpa using hr, rfl⟩
  · intro r hr; simp only [Finset.mem_filter, Finset.mem_univ, true_and] at hr; exact hfg r hr

/-- The maximum over the kernel's rows is the maximum over the keys, scaled by `1 / log 2`. -/
theorem max_visible (visK : κ → Prop) (vis : ι → Prop) [DecidablePred visK] [DecidablePred vis] (pos : κ → ι)
    (hto : ∀ r, visK r → vis (pos r)) (hsurj : ∀ j, vis j → ∃ r, visK r ∧ pos r = j) (τ : κ → EReal) (σ : ι → EReal)
    (hs : ∀ r, visK r → τ r = σ (pos r) * log2e) :
    (Finset.univ.sup fun r => if visK r then τ r else ⊥) = (Finset.univ.sup fun j => if vis j then σ j else ⊥) * log2e := by
  apply le_antisymm
  · refine Finset.sup_le fun r _ => ?_
    split_ifs with h
    · rw [hs r h]
      refine mul_le_mul_of_nonneg_right ?_ (EReal.coe_nonneg.mpr log2e_pos.le)
      refine le_trans (le_of_eq ?_) (Finset.le_sup (f := fun j => if vis j then σ j else ⊥) (Finset.mem_univ (pos r)))
      simp [hto r h]
    · exact bot_le
  · rcases isEmpty_or_nonempty ι with hι | hι
    · rw [Finset.univ_eq_empty, Finset.sup_empty, EReal.bot_mul_coe_of_pos log2e_pos]; exact bot_le
    obtain ⟨j, -, hj⟩ := Finset.exists_mem_eq_sup Finset.univ Finset.univ_nonempty (fun j => if vis j then σ j else ⊥)
    rw [hj]
    split_ifs with h
    · obtain ⟨r, hr, rfl⟩ := hsurj j h
      rw [← hs r hr]
      refine le_trans (le_of_eq ?_) (Finset.le_sup (f := fun r => if visK r then τ r else ⊥) (Finset.mem_univ r))
      simp [hr]
    · rw [EReal.bot_mul_coe_of_pos log2e_pos]; exact bot_le

/-- The weights `exp (x - max x)` of a row are all zero, or their sum is a positive real number. -/
theorem weights (x : ι → EReal) :
    (∀ j, Ideal.exp (x j - Finset.univ.sup x) = 0)
      ∨ ∃ l : ℝ, 0 < l ∧ ∑ j, Ideal.exp (x j - Finset.univ.sup x) = (l : EReal) := by
  generalize hm : Finset.univ.sup x = m
  have hle : ∀ j, x j ≤ m := fun j => hm ▸ Finset.le_sup (Finset.mem_univ j)
  induction m with
  | bot =>
    left; intro j
    rw [le_bot_iff.mp (hle j), EReal.bot_sub]; rfl
  | top =>
    left; intro j
    rw [EReal.sub_top]; rfl
  | coe r =>
    right
    have hreal : ∀ j, ∃ q : ℝ, 0 ≤ q ∧ Ideal.exp (x j - (r : EReal)) = (q : EReal) := by
      intro j
      have hj := hle j
      generalize x j = y at hj
      induction y with
      | bot => exact ⟨0, le_refl _, by rw [EReal.bot_sub]; rfl⟩
      | top => exact absurd (top_le_iff.mp hj) (EReal.coe_ne_top r)
      | coe s => exact ⟨Real.exp (s - r), (Real.exp_pos _).le, by rw [← EReal.coe_sub, Ideal.exp_coe]⟩
    choose q hq0 hq using hreal
    refine ⟨∑ j, q j, ?_, ?_⟩
    · have hne : Nonempty ι := by
        by_contra h
        rw [not_nonempty_iff] at h
        rw [Finset.univ_eq_empty, Finset.sup_empty] at hm
        exact EReal.bot_ne_coe r hm
      obtain ⟨j, -, hj⟩ := Finset.exists_mem_eq_sup Finset.univ Finset.univ_nonempty x
      have h1 : q j = 1 := by
        have := hq j
        rw [← hj, hm, ← EReal.coe_sub, sub_self, Ideal.exp_coe, Real.exp_zero] at this
        exact (EReal.coe_eq_coe_iff.mp this).symm
      exact lt_of_lt_of_le (by rw [h1]; norm_num) (Finset.single_le_sum (fun i _ => hq0 i) (Finset.mem_univ j))
    · simp only [hq]
      induction (Finset.univ : Finset ι) using Finset.induction_on with
      | empty => simp
      | insert a s ha ih => rw [Finset.sum_insert ha, Finset.sum_insert ha, ih, EReal.coe_add]

/-- ONE ROW. The kernel's row: scores `τ` of its rows scaled by `1 / log 2`, powers of two, the weighted sum of the
    values `w` first and one division of the value scale `vs` by the sum of the weights after it. The reference's row:
    scores `σ` of all keys, exponentials, each weight times the reciprocal of their sum, the weighted sum of the values
    `v`, and the value scale last. They are equal when the rows the kernel sees are the keys the reference sees, one to
    one, with the same scores and values there. No score, value or scale need be finite. -/
theorem row (visK : κ → Prop) (vis : ι → Prop) [DecidablePred visK] [DecidablePred vis] (pos : κ → ι)
    (hto : ∀ r, visK r → vis (pos r)) (hinj : ∀ r r', visK r → visK r' → pos r = pos r' → r = r')
    (hsurj : ∀ j, vis j → ∃ r, visK r ∧ pos r = j) (τ w : κ → EReal) (σ v : ι → EReal) (vs : EReal)
    (hs : ∀ r, visK r → τ r = σ (pos r) * log2e) (hv : ∀ r, visK r → w r = v (pos r)) :
    (∑ r, w r * Ideal.exp2 ((if visK r then τ r else ⊥) - Finset.univ.sup fun r => if visK r then τ r else ⊥))
        * Ideal.div vs (∑ r, Ideal.exp2 ((if visK r then τ r else ⊥) - Finset.univ.sup fun r => if visK r then τ r else ⊥))
      = (∑ j, Ideal.exp ((if vis j then σ j else ⊥) - Finset.univ.sup fun j => if vis j then σ j else ⊥)
            * Ideal.div 1 (∑ j, Ideal.exp ((if vis j then σ j else ⊥) - Finset.univ.sup fun j => if vis j then σ j else ⊥)) * v j)
        * vs := by
  rw [max_visible visK vis pos hto hsurj τ σ hs]
  have hw := weights fun j => if vis j then σ j else ⊥
  generalize (Finset.univ.sup fun j => if vis j then σ j else ⊥) = M at hw ⊢
  have hE : ∀ r, Ideal.exp2 ((if visK r then τ r else ⊥) - M * log2e)
      = if visK r then Ideal.exp (σ (pos r) - M) else 0 := by
    intro r
    split_ifs with h
    · rw [hs r h, sub_mul_log2e, exp2_mul_log2e]
    · rw [EReal.bot_sub]; rfl
  have he : ∀ j, ¬vis j → Ideal.exp ((if vis j then σ j else ⊥) - M) = 0 := by
    intro j h
    rw [if_neg h, EReal.bot_sub]; rfl
  have he' : ∀ r, visK r → (if visK r then Ideal.exp (σ (pos r) - M) else 0)
      = Ideal.exp ((if vis (pos r) then σ (pos r) else ⊥) - M) := by
    intro r h
    rw [if_pos h, if_pos (hto r h)]
  simp only [hE]
  rw [sum_visible visK vis pos hto hinj hsurj (fun r => if visK r then Ideal.exp (σ (pos r) - M) else 0)
      (fun j => Ideal.exp ((if vis j then σ j else ⊥) - M)) (fun r h => if_neg h) he he',
    sum_visible visK vis pos hto hinj hsurj (fun r => w r * if visK r then Ideal.exp (σ (pos r) - M) else 0)
      (fun j => v j * Ideal.exp ((if vis j then σ j else ⊥) - M)) (fun r h => by simp only [if_neg h, mul_zero])
      (fun j h => by simp only [he j h, mul_zero]) (fun r h => by simp only [he' r h, hv r h])]
  rcases hw with h0 | ⟨l, hl, hsum⟩
  · simp only [h0, mul_zero, zero_mul, Finset.sum_const_zero]
  · rw [hsum]
    have hl0 : ((l : ℝ) : EReal) ≠ 0 := by exact_mod_cast hl.ne'
    have hdiv : ∀ y : EReal, Ideal.div y (l : EReal) = y * ((l⁻¹ : ℝ) : EReal) := by
      intro y
      rw [EReal.coe_inv]
      exact if_neg hl0
    rw [hdiv, hdiv, one_mul, mul_comm vs, ← mul_assoc]
    congr 1
    rw [mul_comm, coe_mul_sum _ _ (inv_nonneg.mpr hl.le)]
    refine Finset.sum_congr rfl fun j _ => ?_
    rw [mul_comm (v j), ← mul_assoc, mul_comm ((l⁻¹ : ℝ) : EReal)]

end

end Cert.Softmax

end
-- ==== Proof.Attention.lean ====
/- The value both programs compute, as a function of the six arguments: sliding-window attention at one query and one column. -/
module

public import proofs.«01_k».proof.Proof.Softmax
public import Idealize.ShloMosaic.Lib.Pointwise

@[expose] public section

noncomputable section

namespace Cert.Attention

open Idealize.ShloMosaic

/-- The word with all exponent bits set and the sign on is minus infinity. -/
theorem neg_inf : Ideal.ofBits .f32 4286578688#32 = ⊥ := by
  show Ideal.ofBits .f32 0xFF800000#32 = ⊥
  simp [Ideal.ofBits, Ideal.ieee]

/-- Two positions of a three-axis array are the same when their coordinates are, as numbers. -/
theorem ix3_congr {n0 n1 n2 : ℕ} {a a' : Fin n0} {b b' : Fin n1} {c c' : Fin n2} (ha : a.val = a'.val) (hb : b.val = b'.val) (hc : c.val = c'.val) :
    ix3 a b c = ix3 a' b' c' := by
  obtain rfl := Fin.ext ha
  obtain rfl := Fin.ext hb
  obtain rfl := Fin.ext hc
  rfl

/-- The scale of the scores of a query head: its query scale times its key head's scale times the constant of the head size. -/
def scale (qs : FVec Ideal ⟨1, ![16]⟩ .f32) (ks : FVec Ideal ⟨1, ![4]⟩ .f32) (h : Fin 16) : EReal :=
  (qs (ix1 h) * ks (ix1 ⟨h.val / 4, by omega⟩)) * Ideal.ofBits .f32 1035273459#32

/-- The scaled score of the query at position `s` against the key at position `j`; column `f` names the head, `f / 128`, whose keys are
    those of the key head `f / 512`. -/
def sco (q : FVec Ideal ⟨3, ![2, 32768, 2048]⟩ .fp8e4m3) (qs : FVec Ideal ⟨1, ![16]⟩ .f32) (k : FVec Ideal ⟨3, ![2, 32768, 512]⟩ .fp8e4m3)
    (ks : FVec Ideal ⟨1, ![4]⟩ .f32) (b : Fin 2) (s : Fin 32768) (f : Fin 2048) (j : Fin 32768) : EReal :=
  (∑ d : Fin 128, q (ix3 b s ⟨f.val / 128 * 128 + d.val, by omega⟩) * k (ix3 b j ⟨f.val / 512 * 128 + d.val, by omega⟩))
    * scale qs ks ⟨f.val / 128, by omega⟩

/-- The key at position `j` is seen from position `s`: it is not later, and at most 999 positions back. -/
def vis (s j : ℕ) : Prop := j ≤ s ∧ s < j + 1000

/-- The definition of `vis`, as an equivalence. -/
theorem vis_iff (s j : ℕ) : vis s j ↔ j ≤ s ∧ s < j + 1000 := Iff.rfl

instance (s j : ℕ) : Decidable (vis s j) := by unfold vis; infer_instance

/-- The score, minus infinity at a key that is not seen. -/
def msk (q : FVec Ideal ⟨3, ![2, 32768, 2048]⟩ .fp8e4m3) (qs : FVec Ideal ⟨1, ![16]⟩ .f32) (k : FVec Ideal ⟨3, ![2, 32768, 512]⟩ .fp8e4m3)
    (ks : FVec Ideal ⟨1, ![4]⟩ .f32) (b : Fin 2) (s : Fin 32768) (f : Fin 2048) (j : Fin 32768) : EReal :=
  if vis s.val j.val then sco q qs k ks b s f j else ⊥

/-- Attention: the values weighted by the normalized exponentials of the scores, times the value scale. -/
def attn (q : FVec Ideal ⟨3, ![2, 32768, 2048]⟩ .fp8e4m3) (qs : FVec Ideal ⟨1, ![16]⟩ .f32) (k : FVec Ideal ⟨3, ![2, 32768, 512]⟩ .fp8e4m3)
    (ks : FVec Ideal ⟨1, ![4]⟩ .f32) (v : FVec Ideal ⟨3, ![2, 32768, 512]⟩ .fp8e4m3) (vs : FVec Ideal ⟨1, ![4]⟩ .f32)
    (b : Fin 2) (s : Fin 32768) (f : Fin 2048) : EReal :=
  (∑ j : Fin 32768, Ideal.exp (msk q qs k ks b s f j - Finset.univ.sup fun j => msk q qs k ks b s f j)
      * Ideal.div 1 (∑ j : Fin 32768, Ideal.exp (msk q qs k ks b s f j - Finset.univ.sup fun j => msk q qs k ks b s f j))
      * v (ix3 b j ⟨f.val / 512 * 128 + f.val % 128, by omega⟩))
    * vs (ix1 ⟨f.val / 512, by omega⟩)

/-- Multiplying by the inverse of the sum is dividing by the sum, unless the sum is zero. -/
theorem weight_eq_div (e l : EReal) (h : l ≠ 0) : e * Ideal.div 1 l = Ideal.div e l := by
  unfold Ideal.div
  rw [if_neg h, if_neg h, one_mul]

/-- The sum of a row's exponentials is not zero when the row's largest score is a number. With `weight_eq_div`: the weights of
    `attn` are then the softmax of the row, written with a division. -/
theorem sum_ne_zero (f : Fin 32768 → EReal) (ht : Finset.univ.sup f ≠ ⊤) (hb : Finset.univ.sup f ≠ ⊥) :
    (∑ j : Fin 32768, Ideal.exp (f j - Finset.univ.sup f)) ≠ 0 := by
  obtain ⟨j, -, hj⟩ := Finset.exists_mem_eq_sup Finset.univ Finset.univ_nonempty f
  have h1 : Ideal.exp (f j - Finset.univ.sup f) = 1 := by
    rw [← hj, EReal.sub_self ht hb]
    show ((Real.exp 0 : ℝ) : EReal) = 1
    rw [Real.exp_zero, EReal.coe_one]
  have h0 : ∀ i ∈ Finset.univ, 0 ≤ Ideal.exp (f i - Finset.univ.sup f) := by
    intro i _
    generalize f i - Finset.univ.sup f = x
    induction x with
    | bot => exact le_rfl
    | top => exact le_top
    | coe r => exact EReal.coe_nonneg.mpr (Real.exp_pos r).le
  have := Finset.single_le_sum h0 (Finset.mem_univ j)
  rw [h1] at this
  exact (lt_of_lt_of_le zero_lt_one this).ne'

end Cert.Attention

end
-- ==== Proof.Tile.lean ====
/- One tile of the kernel, 64 queries of four heads against 1088 keys: the concatenated queries, the masked scores, and the last product
   with its scale, each read at one row and one column. -/
module

public import proofs.«01_k».proof.Proof.Gen.KernelIdeal.Value
public import proofs.«01_k».proof.Proof.Attention
public import Idealize.ShloMosaic.Lib.Pipeline.ValueKit
public import Idealize.ShloMosaic.Lib.Pointwise

@[expose] public section

set_option maxRecDepth 16384

noncomputable section

namespace Cert.KernelIdeal.Val

open Idealize.ShloMosaic Idealize.ShloMosaic.TcCoe Idealize.SL.Sem
open Cert.KernelIdeal Cert.KernelIdeal.Gen Cert.Attention

/-- The masked scores of one sub-block: rows are the 1088 keys at hand, columns the 64 queries of four heads. -/
def score (arg2 q : BitVec 32) (v21 : FVec Ideal S1x256 .f32) (v44 : IVec S96x256 1) (v47 : IVec S64x256 1) (v48 : IVec S1088x256 32)
    (x : FVec Ideal S256x128 .fp8e4m3) (k : Vec Ideal S1088x128 .fp8e4m3) : FVec Ideal S1088x256 .f32 :=
  have z : FVec Ideal S1088x256 .f32 := constant S1088x256 .f32 0x00000000#32
  have d : FVec Ideal S1088x256 .f32 := matmul dot_S1088x128_S256x128_S1088x256_1_1_0_0_n_n none (φ₁ := .fp8e4m3) k x z
  have b : FVec Ideal S1088x256 .f32 := broadcastTo S1088x256 v21 broadcasts_S1x256_S1088x256
  have s : FVec Ideal S1088x256 .f32 := mulf d b
  have s0 : FVec Ideal S96x256 .f32 := extractStridedSlice S96x256 ![0, 0] s slices_S1088x256_o0_0_S96x256
  have n0 : FVec Ideal S96x256 .f32 := broadcast S96x256 (Scalar.ofBits .f32 0xFF800000#32)
  have m0 : FVec Ideal S96x256 .f32 := select v44 s0 n0
  have s1 : FVec Ideal S928x256 .f32 := extractStridedSlice S928x256 ![96, 0] s slices_S1088x256_o96_0_S928x256
  have s2 : FVec Ideal S64x256 .f32 := extractStridedSlice S64x256 ![1024, 0] s slices_S1088x256_o1024_0_S64x256
  have n2 : FVec Ideal S64x256 .f32 := broadcast S64x256 (Scalar.ofBits .f32 0xFF800000#32)
  have m2 : FVec Ideal S64x256 .f32 := select v47 s2 n2
  have c : FVec Ideal S1088x256 .f32 := concatenate S1088x256 0 [⟨S96x256, m0⟩, ⟨S928x256, s1⟩, ⟨S64x256, m2⟩] concatenates_S96x256_S928x256_S64x256_S1088x256_d0
  let p : BitVec 32 := Scalar.subi (Scalar.addi (Scalar.muli arg2 1024#32) q) 1024#32
  have pb : IVec S1088x256 32 := broadcast S1088x256 p
  have pr : IVec S1088x256 32 := addi v48 pb
  have zb : IVec S1088x256 32 := broadcast S1088x256 0#32
  have g : IVec S1088x256 1 := cmpi .sge pr zb
  have n : FVec Ideal S1088x256 .f32 := broadcast S1088x256 (Scalar.ofBits .f32 0xFF800000#32)
  select g c n

/-- Which of the 1088 keys at hand are seen by a query: not those more than 999 positions back (`r ≤ c + 24`), not those after it,
    and not those before the start of the sequence. -/
def visK (i q r c : ℕ) : Prop :=
  (r < 96 → c + 24 < r) ∧ (1024 ≤ r → r - 1024 ≤ c) ∧ 1024 ≤ i * 1024 + q + r

/-- The definition of `visK`, as an equivalence. -/
theorem visK_iff (i q r c : ℕ) : visK i q r c ↔ (r < 96 → c + 24 < r) ∧ (1024 ≤ r → r - 1024 ≤ c) ∧ 1024 ≤ i * 1024 + q + r := Iff.rfl

instance (i q r c : ℕ) : Decidable (visK i q r c) := by unfold visK; infer_instance

/-- The column number modulo 64. -/
theorem pay11_at (r : Fin 96) (col : Fin 256) : k0_pay11 64#32 k0_pay10 (ix2 r col) = BitVec.ofNat 32 (col.val % 64) := by
  pointwise [k0_pay10, k0_pay11]
  revert col
  decide +kernel

/-- The low edge of the window, as a mask on the first 96 keys. -/
theorem low_at (r : Fin 96) (col : Fin 256) :
    k0_pay12 64#32 k0_pay10 (ix2 r col) = BitVec.ofBool (decide (col.val % 64 + 24 < r.val)) := by
  pointwise [k0_pay12]
  rw [pay11_at]
  have hc : col.val % 64 < 64 := Nat.mod_lt _ (by decide)
  generalize col.val % 64 = c at hc
  revert r c
  decide +kernel

/-- The high edge of the window, as a mask on the last 64 keys. -/
theorem high_at (r : Fin 64) (col : Fin 256) :
    k0_pay13 64#32 k0_pay10 (ix2 r col) = BitVec.ofBool (decide (r.val ≤ col.val % 64)) := by
  pointwise [k0_pay13]
  rw [pay11_at]
  have hc : col.val % 64 < 64 := Nat.mod_lt _ (by decide)
  generalize col.val % 64 = c at hc
  revert r c
  decide +kernel

/-- The queries of four heads put side by side. -/
theorem qcat_at (x0 x1 x2 x3 : Vec Ideal S1x64x128 .fp8e4m3) (col : Fin 256) (d : Fin 128) :
    k0_pay39 (F := Ideal) x0 x1 x2 x3 (ix2 col d) =
      if h : col.val < 64 then x0 (ix3 0 ⟨col.val, h⟩ d)
      else if h : col.val - 64 < 64 then x1 (ix3 0 ⟨col.val - 64, h⟩ d)
      else if h : col.val - 64 - 64 < 64 then x2 (ix3 0 ⟨col.val - 64 - 64, h⟩ d)
      else x3 (ix3 0 ⟨col.val - 64 - 64 - 64, by have := col.isLt; omega⟩ d) := by
  pointwise [k0_pay39]

/-- The result of a sub-block: the weighted sum of the values, times the value scale over the sum of the weights. -/
theorem finish_at (v23 : FVec Ideal S1x256 .f32) (s : FVec Ideal S1088x256 .f32) (v : Vec Ideal S128x1088 .bf16) (col : Fin 256) (d : Fin 128) :
    k0_pay25 (F := Ideal) v23 s v (ix2 col d) =
      (∑ r : Fin 1088, v (ix2 d r) * Ideal.exp2 (s (ix2 r col) - Finset.univ.sup fun r => s (ix2 r col)))
        * Ideal.div (v23 (ix2 0 col)) (∑ r : Fin 1088, Ideal.exp2 (s (ix2 r col) - Finset.univ.sup fun r => s (ix2 r col))) := by
  pointwise [k0_pay25]
  simp only [neg_inf]
  rfl

/-- The sign test on a key's position, which may lie before the start of the sequence. -/
theorem start_at (i q r : ℕ) (hi : i < 32) (hq : q < 1024) (hr : r < 1088) :
    IntOp.cmpi .sge (IntOp.addi (BitVec.ofNat 32 r) (Scalar.subi (Scalar.addi (Scalar.muli (BitVec.ofNat 32 i) 1024#32) (BitVec.ofNat 32 q)) 1024#32)) 0#32
      = BitVec.ofBool (decide (1024 ≤ i * 1024 + q + r)) := by
  show BitVec.ofBool (BitVec.sle 0#32 (BitVec.ofNat 32 r + (BitVec.ofNat 32 i * 1024#32 + BitVec.ofNat 32 q - 1024#32))) = _
  congr 1
  have e : (BitVec.ofNat 32 r + (BitVec.ofNat 32 i * 1024#32 + BitVec.ofNat 32 q - 1024#32)) = BitVec.ofInt 32 ((i * 1024 + q + r : ℤ) - 1024) := by
    apply BitVec.eq_of_toNat_eq
    simp only [BitVec.toNat_add, BitVec.toNat_mul, BitVec.toNat_sub, BitVec.toNat_ofNat, BitVec.toNat_ofInt]
    omega
  rw [e, BitVec.sle_eq_decide, BitVec.toInt_ofInt, Int.bmod_eq_of_le (by omega) (by omega)]
  simp only [BitVec.toInt_zero, decide_eq_decide]
  omega

/-- The masked scores at a key and a query. -/
theorem score_at (i q : ℕ) (hi : i < 32) (hq : q < 1024) (v21 : FVec Ideal S1x256 .f32)
    (x : FVec Ideal S256x128 .fp8e4m3) (k : Vec Ideal S1088x128 .fp8e4m3) (r : Fin 1088) (col : Fin 256) :
    score (BitVec.ofNat 32 i) (BitVec.ofNat 32 q) v21 (k0_pay12 64#32 k0_pay10) (k0_pay13 64#32 k0_pay10)
        (iota .tc S1088x256 32 [0] iota_S1088x256_d0_w32) x k (ix2 r col)
      = (if visK i q r.val (col.val % 64) then (∑ d : Fin 128, (k (ix2 r d) : EReal) * x (ix2 col d)) * v21 (ix2 0 col) else ⊥ : EReal) := by
  have hr := r.isLt
  have hv := visK_iff i q r.val (col.val % 64)
  have e : ∀ (j : ℕ) (h : j < 1088), j = r.val → (⟨j, h⟩ : Fin 1088) = r := fun j h e => Fin.ext e
  generalize hR : (if visK i q r.val (col.val % 64) then (∑ d : Fin 128, (k (ix2 r d) : EReal) * x (ix2 col d)) * v21 (ix2 0 col) else ⊥ : EReal) = R
  pointwise [score]
  rw [start_at i q r.val hi hq hr]
  simp only [low_at, high_at, neg_inf, WordCmp.select_decide]
  subst hR
  by_cases h0 : 1024 ≤ i * 1024 + q + r.val
  · refine (if_pos h0).trans ?_
    by_cases h1 : r.val < 96
    · refine (dif_pos h1).trans ?_
      exact if_congr (by rw [hv]; omega) rfl rfl
    · refine (dif_neg h1).trans ?_
      by_cases h2 : r.val - 96 < 928
      · refine ((dif_pos h2).trans ?_).trans (if_pos (hv.2 (by omega))).symm
        rw [e _ _ (by omega)]
      · refine (dif_neg h2).trans ?_
        rw [e _ _ (by omega)]
        exact if_congr (by rw [hv]; omega) rfl rfl
  · exact (if_neg h0).trans (if_neg (fun h => h0 (hv.1 h).2.2)).symm

end Cert.KernelIdeal.Val

end
-- ==== Proof.Block.lean ====
/- The sixteen tiles of a grid point follow one formula, `orow`; a store of a tile is that formula on the tile's rows and columns. -/
module

public import proofs.«01_k».proof.Proof.Tile

@[expose] public section

set_option maxRecDepth 16384

noncomputable section

namespace Cert.KernelIdeal.Val

open Idealize.ShloMosaic Idealize.ShloMosaic.TcCoe Idealize.SL.Sem
open Cert.KernelIdeal Cert.KernelIdeal.Gen

/-- The score of query `n` (of the head `f / 128`) against the key `r` rows after the start of its window, in base 2. -/
def srow (i : ℕ) (X : Vec Ideal S1x1024x512 .fp8e4m3) (K : Vec Ideal S2048x128 .fp8e4m3) (C : FVec Ideal S1x256 .f32)
    (n : Fin 1024) (f : Fin 512) (r : Fin 1088) : EReal :=
  if visK i (n.val / 64 * 64) r.val (n.val % 64) then
    (∑ d : Fin 128, (K (ix2 ⟨n.val / 64 * 64 + r.val, by omega⟩ d) : EReal) * X (ix3 0 n ⟨f.val / 128 * 128 + d.val, by omega⟩))
      * C (ix2 0 ⟨f.val / 128 * 64 + n.val % 64, by omega⟩)
  else ⊥

/-- One entry of the block a grid point writes, as a function of the queries, the keys and values at hand and the scales. -/
def orow (i : ℕ) (X : Vec Ideal S1x1024x512 .fp8e4m3) (K : Vec Ideal S2048x128 .fp8e4m3) (V : Vec Ideal S128x2048 .bf16)
    (C VS : FVec Ideal S1x256 .f32) (n : Fin 1024) (f : Fin 512) : EReal :=
  (∑ r : Fin 1088, (V (ix2 ⟨f.val % 128, by omega⟩ ⟨n.val / 64 * 64 + r.val, by omega⟩) : EReal)
      * Ideal.exp2 (srow i X K C n f r - Finset.univ.sup fun r => srow i X K C n f r))
    * Ideal.div (VS (ix2 0 ⟨f.val / 128 * 64 + n.val % 64, by omega⟩))
      (∑ r : Fin 1088, Ideal.exp2 (srow i X K C n f r - Finset.univ.sup fun r => srow i X K C n f r))

/-- A tile of queries, loaded. -/
theorem ld_X (X : Vec Ideal S1x1024x512 .fp8e4m3) (q o : ℕ) (inb : _) (hq : q ≤ 960) (ho : o ≤ 384) (n : Fin 64) (d : Fin 128) :
    View.ld X (Rect.unit (s := S1x1024x512) ![0, q, o] ![1, 64, 128] inb) (ix3 0 n d)
      = X (ix3 0 ⟨q + n.val, by omega⟩ ⟨o + d.val, by omega⟩) := by
  refine congrArg X (funext fun a => Fin.ext ?_)
  fin_cases a <;> simp [Rect.idx_unit_val]

/-- The keys of a sub-block's window, loaded from what the scratch buffer was last given. -/
theorem ld_K (L : List (View.Piece (Elt Ideal) S2048x128 .fp8e4m3)) (q : ℕ) (inb : _) (hq : q ≤ 960) (r : Fin 1088) (d : Fin 128) :
    (View.whole cc0_scratch0).readCov L (Rect.unit (s := S2048x128) ![q, 0] ![1088, 128] inb).toLoadRect (ix2 r d)
      = View.canon L (ix2 ⟨q + r.val, by omega⟩ d) := by
  rw [View.readCov_eq_canon']
  refine congrArg (View.canon L) (funext fun a => Fin.ext ?_)
  fin_cases a <;> simp [Rect.idx_unit_val]

/-- The values of a sub-block's window, likewise. -/
theorem ld_V (L : List (View.Piece (Elt Ideal) S128x2048 .bf16)) (q : ℕ) (inb : _) (hq : q ≤ 960) (d : Fin 128) (r : Fin 1088) :
    (View.whole cc0_scratch1).readCov L (Rect.unit (s := S128x2048) ![0, q] ![128, 1088] inb).toLoadRect (ix2 d r)
      = View.canon L (ix2 d ⟨q + r.val, by omega⟩) := by
  rw [View.readCov_eq_canon']
  refine congrArg (View.canon L) (funext fun a => Fin.ext ?_)
  fin_cases a <;> simp [Rect.idx_unit_val]

/-- The four heads' queries side by side, read off the block of queries. -/
theorem qcat_X (X : Vec Ideal S1x1024x512 .fp8e4m3) (q : ℕ) (hq : q ≤ 960) (i0 i1 i2 i3 : _) (col : Fin 256) (d : Fin 128) :
    k0_pay39 (F := Ideal) (View.ld X (Rect.unit (s := S1x1024x512) ![0, q, 0] ![1, 64, 128] i0))
        (View.ld X (Rect.unit (s := S1x1024x512) ![0, q, 128] ![1, 64, 128] i1))
        (View.ld X (Rect.unit (s := S1x1024x512) ![0, q, 256] ![1, 64, 128] i2))
        (View.ld X (Rect.unit (s := S1x1024x512) ![0, q, 384] ![1, 64, 128] i3)) (ix2 col d)
      = X (ix3 0 ⟨q + col.val % 64, by omega⟩ ⟨col.val / 64 * 128 + d.val, by omega⟩) := by
  rw [qcat_at]
  have hc := col.isLt
  by_cases h0 : col.val < 64
  · rw [dif_pos h0, ld_X X q 0 i0 hq (by omega)]; congr 1; congr 1 <;> apply Fin.ext <;> dsimp only <;> omega
  · rw [dif_neg h0]
    by_cases h1 : col.val - 64 < 64
    · rw [dif_pos h1, ld_X X q 128 i1 hq (by omega)]; congr 1; congr 1 <;> apply Fin.ext <;> dsimp only <;> omega
    · rw [dif_neg h1]
      by_cases h2 : col.val - 64 - 64 < 64
      · rw [dif_pos h2, ld_X X q 256 i2 hq (by omega)]; congr 1; congr 1 <;> apply Fin.ext <;> dsimp only <;> omega
      · rw [dif_neg h2, ld_X X q 384 i3 hq (by omega)]; congr 1; congr 1 <;> apply Fin.ext <;> dsimp only <;> omega

/-- The result of a sub-block at a query and a column, in closed form. The keys and values at hand are the scratch contents given by
    the stores `LK` and `LV`. -/
theorem piece_at (i q o : ℕ) (X : Vec Ideal S1x1024x512 .fp8e4m3)
    (LK : List (View.Piece (Elt Ideal) S2048x128 .fp8e4m3)) (LV : List (View.Piece (Elt Ideal) S128x2048 .bf16))
    (C VS : FVec Ideal S1x256 .f32) (i0 i1 i2 i3 ik iv : _)
    (n : Fin 64) (d : Fin 128) (y : Fin 1024) (f : Fin 512) (hi : i < 32)
    (hq : q ≤ 960) (hq6 : q % 64 = 0) (ho : o ≤ 192) (ho6 : o % 64 = 0)
    (h1 : y.val = q + n.val) (h2 : f.val = o * 2 + d.val) (hc : o + n.val < 256) :
    k0_pay25 (F := Ideal) VS
          (score (BitVec.ofNat 32 i) (BitVec.ofNat 32 q) C (k0_pay12 64#32 k0_pay10) (k0_pay13 64#32 k0_pay10)
            (iota .tc S1088x256 32 [0] iota_S1088x256_d0_w32)
            (k0_pay39 (F := Ideal) (View.ld X (Rect.unit (s := S1x1024x512) ![0, q, 0] ![1, 64, 128] i0))
              (View.ld X (Rect.unit (s := S1x1024x512) ![0, q, 128] ![1, 64, 128] i1))
              (View.ld X (Rect.unit (s := S1x1024x512) ![0, q, 256] ![1, 64, 128] i2))
              (View.ld X (Rect.unit (s := S1x1024x512) ![0, q, 384] ![1, 64, 128] i3)))
            ((View.whole cc0_scratch0).readCov LK (Rect.unit (s := S2048x128) ![q, 0] ![1088, 128] ik).toLoadRect))
          ((View.whole cc0_scratch1).readCov LV (Rect.unit (s := S128x2048) ![0, q] ![128, 1088] iv).toLoadRect)
        (ix2 ⟨o + n.val, hc⟩ d)
      = orow i X (View.canon LK) (View.canon LV) C VS y f := by
  have e1 : (o + n.val) % 64 = y.val % 64 := by omega
  have e3 : (o + n.val) / 64 = f.val / 128 := by omega
  have e2 : ∀ r : Fin 1088, ∀ h, (⟨q + r.val, h⟩ : Fin 2048) = ⟨y.val / 64 * 64 + r.val, by omega⟩ := fun r h => Fin.ext (by dsimp only; omega)
  have e4 : (⟨o + n.val, hc⟩ : Fin 256) = ⟨f.val / 128 * 64 + y.val % 64, by omega⟩ := Fin.ext (by dsimp only; omega)
  have e5 : d = ⟨f.val % 128, by omega⟩ := Fin.ext (by dsimp only; omega)
  have e6 : ∀ h, (⟨q + y.val % 64, h⟩ : Fin 1024) = y := fun h => Fin.ext (by dsimp only; omega)
  have e7 : q = y.val / 64 * 64 := by omega
  refine (finish_at VS _ _ ⟨o + n.val, hc⟩ d).trans ?_
  have hS : ∀ r : Fin 1088,
      score (BitVec.ofNat 32 i) (BitVec.ofNat 32 q) C (k0_pay12 64#32 k0_pay10) (k0_pay13 64#32 k0_pay10)
            (iota .tc S1088x256 32 [0] iota_S1088x256_d0_w32)
            (k0_pay39 (F := Ideal) (View.ld X (Rect.unit (s := S1x1024x512) ![0, q, 0] ![1, 64, 128] i0))
              (View.ld X (Rect.unit (s := S1x1024x512) ![0, q, 128] ![1, 64, 128] i1))
              (View.ld X (Rect.unit (s := S1x1024x512) ![0, q, 256] ![1, 64, 128] i2))
              (View.ld X (Rect.unit (s := S1x1024x512) ![0, q, 384] ![1, 64, 128] i3)))
            ((View.whole cc0_scratch0).readCov LK (Rect.unit (s := S2048x128) ![q, 0] ![1088, 128] ik).toLoadRect)
        (ix2 r ⟨o + n.val, hc⟩) = srow i X (View.canon LK) C y f r := by
    intro r
    rw [score_at i q hi (by omega)]
    unfold srow
    simp only [qcat_X X q hq, ld_K LK q ik hq, e1, e3, e2, e6]
    exact if_congr (by rw [← e7]) (congrArg (fun c => _ * C (ix2 0 c)) e4) rfl
  simp only [hS, ld_V LV q iv hq, e2]
  unfold orow
  rw [← e5]
  exact congrArg (fun c => _ * Ideal.div (VS (ix2 0 c)) _) e4

/-- One stored piece (64 queries of one head) at an entry of the block. -/
theorem piece (i q o : ℕ) (X : Vec Ideal S1x1024x512 .fp8e4m3)
    (LK : List (View.Piece (Elt Ideal) S2048x128 .fp8e4m3)) (LV : List (View.Piece (Elt Ideal) S128x2048 .bf16))
    (C VS : FVec Ideal S1x256 .f32) (i0 i1 i2 i3 ik iv hs : _)
    (x : S1x64x128.Idx) (y : S1x1024x512.Idx) (hi : i < 32)
    (hq : q ≤ 960) (hq6 : q % 64 = 0) (ho : o ≤ 192) (ho6 : o % 64 = 0)
    (h1 : (y 1).val = q + (x 1).val) (h2 : (y 2).val = o * 2 + (x 2).val) :
    shapeCast S1x64x128 (extractStridedSlice S64x128 ![o, 0]
        (k0_pay25 (F := Ideal) VS
          (score (BitVec.ofNat 32 i) (BitVec.ofNat 32 q) C (k0_pay12 64#32 k0_pay10) (k0_pay13 64#32 k0_pay10)
            (iota .tc S1088x256 32 [0] iota_S1088x256_d0_w32)
            (k0_pay39 (F := Ideal) (View.ld X (Rect.unit (s := S1x1024x512) ![0, q, 0] ![1, 64, 128] i0))
              (View.ld X (Rect.unit (s := S1x1024x512) ![0, q, 128] ![1, 64, 128] i1))
              (View.ld X (Rect.unit (s := S1x1024x512) ![0, q, 256] ![1, 64, 128] i2))
              (View.ld X (Rect.unit (s := S1x1024x512) ![0, q, 384] ![1, 64, 128] i3)))
            ((View.whole cc0_scratch0).readCov LK (Rect.unit (s := S2048x128) ![q, 0] ![1088, 128] ik).toLoadRect))
          ((View.whole cc0_scratch1).readCov LV (Rect.unit (s := S128x2048) ![0, q] ![128, 1088] iv).toLoadRect))
        hs : FVec Ideal S64x128 .bf16) shapeCasts_S64x128_S1x64x128 x
      = orow i X (View.canon LK) (View.canon LV) C VS (y 1) (y 2) := by
  have hn : (x 1).val < 64 := (x 1).isLt
  pointwise
  exact piece_at i q o X LK LV C VS i0 i1 i2 i3 ik iv (x 1) (x 2) (y 1) (y 2) hi hq hq6 ho ho6 h1 h2 (by omega)

end Cert.KernelIdeal.Val

end
-- ==== Proof.Point.lean ====
/- What a grid point leaves in its output block: `orow` at every query and column, both at the first block of a sequence and at a later one. -/
module

public import proofs.«01_k».proof.Proof.Block

@[expose] public section

set_option maxRecDepth 16384

noncomputable section

namespace Cert.KernelIdeal.Val

open Idealize.ShloMosaic Idealize.ShloMosaic.TcCoe Idealize.SL.Sem
open Cert.KernelIdeal Cert.KernelIdeal.Gen

variable (m : (ℓ : Loc nD τ sig) → Buf (Elt Ideal) ℓ)

/-- At a later block of a sequence, what a grid point writes is the closed form over what its scratch buffers then hold. -/
theorem block_later (c : Dev nD) (t : Fin cfg0.N) (h0 : ¬t.val % 32 = 0) (h1 : 1 ≤ t.val % 32) (y : S1x1024x512.Idx) :
    (outsAt0 m c t.val t.isLt).1 y
      = orow (grid0.coords t 2).val (iblk m c 0 t) (outsAt0 m c t.val t.isLt).2.1 (outsAt0 m c t.val t.isLt).2.2
          (k0_pay8 (iblk m c 3 t)) (k0_pay9 (iblk m c 4 t)) (y 1) (y 2) := by
  rw [outsAt0_B m c t h0 h1]
  have hi : (grid0.coords t 2).val < 32 := (grid0.coords t 2).isLt
  frame_out
  canon_tiles x h
  all_goals
    refine piece _ _ _ (iblk m c 0 t) _ _ (k0_pay8 (iblk m c 3 t)) (k0_pay9 (iblk m c 4 t)) _ _ _ _ _ _ ?_ x y hi ?_ ?_ ?_ ?_ ?_ ?_ <;>
      first
      | omega
      | exact slices_S256x128_o0_0_S64x128
      | exact slices_S256x128_o64_0_S64x128
      | exact slices_S256x128_o128_0_S64x128
      | exact slices_S256x128_o192_0_S64x128

/-- At the first block of a sequence likewise. -/
theorem block_first (c : Dev nD) (t : Fin cfg0.N) (h0 : t.val % 32 = 0) (h1 : ¬1 ≤ t.val % 32) (y : S1x1024x512.Idx) :
    (outsAt0 m c t.val t.isLt).1 y
      = orow (grid0.coords t 2).val (iblk m c 0 t) (outsAt0 m c t.val t.isLt).2.1 (outsAt0 m c t.val t.isLt).2.2
          (k0_pay8 (iblk m c 3 t)) (k0_pay9 (iblk m c 4 t)) (y 1) (y 2) := by
  rw [outsAt0_A m c t h0 h1]
  have hi : (grid0.coords t 2).val < 32 := (grid0.coords t 2).isLt
  frame_out
  canon_tiles x h
  all_goals
    refine piece _ _ _ (iblk m c 0 t) _ _ (k0_pay8 (iblk m c 3 t)) (k0_pay9 (iblk m c 4 t)) _ _ _ _ _ _ ?_ x y hi ?_ ?_ ?_ ?_ ?_ ?_ <;>
      first
      | omega
      | exact slices_S256x128_o0_0_S64x128
      | exact slices_S256x128_o64_0_S64x128
      | exact slices_S256x128_o128_0_S64x128
      | exact slices_S256x128_o192_0_S64x128

/-- What a grid point writes, in closed form. -/
theorem block (c : Dev nD) (t : Fin cfg0.N) (y : S1x1024x512.Idx) :
    (outsAt0 m c t.val t.isLt).1 y
      = orow (grid0.coords t 2).val (iblk m c 0 t) (outsAt0 m c t.val t.isLt).2.1 (outsAt0 m c t.val t.isLt).2.2
          (k0_pay8 (iblk m c 3 t)) (k0_pay9 (iblk m c 4 t)) (y 1) (y 2) := by
  by_cases h : t.val % 32 = 0
  · exact block_first m c t h (by omega) y
  · exact block_later m c t h (by omega) y

end Cert.KernelIdeal.Val

end
-- ==== Proof.Scratch.lean ====
/- What the kernel's operands and its two scratch arrays hold at a grid point, in terms of the arguments: the scratch carries the keys and
   values of the block before next to those of the block itself. -/
module

public import proofs.«01_k».proof.Proof.Block
public import proofs.«01_k».proof.Proof.Attention

@[expose] public section

set_option maxRecDepth 16384

noncomputable section

namespace Cert.KernelIdeal.Val

open Idealize.ShloMosaic Idealize.ShloMosaic.TcCoe Idealize.SL.Sem
open Cert.KernelIdeal Cert.KernelIdeal.Gen Cert.Attention

variable (m : (ℓ : Loc nD τ sig) → Buf (Elt Ideal) ℓ)

/-- The block of each operand and of the result a grid point works on. -/
theorem idx : ∀ t : Fin cfg0.N,
    win0_0.index t = ![t.val / 128, t.val % 32, t.val / 32 % 4] ∧ win0_1.index t = ![t.val / 128, t.val % 32, t.val / 32 % 4]
      ∧ win0_2.index t = ![t.val / 128, t.val % 32, t.val / 32 % 4] ∧ win0_3.index t = ![t.val / 32 % 4, 0, 0]
      ∧ win0_4.index t = ![t.val / 32 % 4, 0, 0] ∧ win0_5.index t = ![t.val / 128, t.val % 32, t.val / 32 % 4] :=
  (by decide +kernel : ∀ t : Fin grid0.N, _)

/-- A grid point's place along the sequence. -/
theorem coord2 : ∀ t : Fin cfg0.N, (grid0.coords t 2).val = t.val % 32 := (by decide +kernel : ∀ t : Fin grid0.N, _)

/-- The block of keys, in the array of keys. -/
theorem blk_k (c : Dev nD) (t : Fin cfg0.N) (j : Fin 1024) (d : Fin 128) (ht : t.val < 256) :
    iblk m c 1 t (ix3 0 j d) = m ((c : Thread nD τ).loc main_arg2)
      (ix3 ⟨t.val / 128, by omega⟩ ⟨t.val % 32 * 1024 + j.val, by omega⟩ ⟨t.val / 32 % 4 * 128 + d.val, by omega⟩) := by
  blk_ext [iblk, V, idx t]

/-- The block of values of a grid point, read from the argument. -/
theorem blk_v (c : Dev nD) (t : Fin cfg0.N) (j : Fin 1024) (d : Fin 128) (ht : t.val < 256) :
    iblk m c 2 t (ix3 0 j d) = m ((c : Thread nD τ).loc main_arg4)
      (ix3 ⟨t.val / 128, by omega⟩ ⟨t.val % 32 * 1024 + j.val, by omega⟩ ⟨t.val / 32 % 4 * 128 + d.val, by omega⟩) := by
  blk_ext [iblk, V, idx t]

/-- The block of queries of a grid point, read from the argument. -/
theorem blk_q (c : Dev nD) (t : Fin cfg0.N) (n : Fin 1024) (f : Fin 512) (ht : t.val < 256) :
    iblk m c 0 t (ix3 0 n f) = m ((c : Thread nD τ).loc main_arg0)
      (ix3 ⟨t.val / 128, by omega⟩ ⟨t.val % 32 * 1024 + n.val, by omega⟩ ⟨t.val / 32 % 4 * 512 + f.val, by omega⟩) := by
  blk_ext [iblk, V, idx t]

/-- The keys stored to the scratch are the block's. -/
theorem pay6_at (x : Vec Ideal S1x1024x128 .fp8e4m3) (j : Fin 1024) (d : Fin 128) : k0_pay6 (F := Ideal) x (ix2 j d) = x (ix3 0 j d) := by
  pointwise [k0_pay6]

/-- The values stored to the scratch are the block's, transposed. -/
theorem pay7_at (x : Vec Ideal S1x1024x128 .fp8e4m3) (j : Fin 1024) (d : Fin 128) : k0_pay7 (F := Ideal) x (ix2 d j) = x (ix3 0 j d) := by
  pointwise [k0_pay7]

/-- The keys moved down in the scratch are stored as loaded. -/
theorem pay4_at (x : Vec Ideal S1024x128 .fp8e4m3) : k0_pay4 (F := Ideal) x = x := by
  funext j; pointwise [k0_pay4]

/-- The values moved down in the scratch are stored as loaded. -/
theorem pay5_at (x : Vec Ideal S128x1024 .bf16) : k0_pay5 (F := Ideal) x = x := by
  funext j; pointwise [k0_pay5]

/-- The upper half of the key scratch is the block of keys of the point itself. -/
theorem k_upper (c : Dev nD) (t : Fin cfg0.N) (R : Fin 2048) (d : Fin 128) (j : Fin 1024) (hj : R.val = 1024 + j.val) :
    (outsAt0 m c t.val t.isLt).2.1 (ix2 R d) = iblk m c 1 t (ix3 0 j d) := by
  by_cases h : t.val % 32 = 0
  · rw [outsAt0_A m c t h (by omega)]
    frame_out
    canon_tiles x h
    case piece0 =>
      rw [show x = ix2 j d from funext fun a => Fin.ext (by fin_cases a <;> simp at h0 h1 ⊢ <;> omega)]
      exact pay6_at _ j d
    case piece1 => simp at h0; omega
  · rw [outsAt0_B m c t h (by omega)]
    frame_out
    canon_tiles x h
    case piece0 =>
      rw [show x = ix2 j d from funext fun a => Fin.ext (by fin_cases a <;> simp at h0 h1 ⊢ <;> omega)]
      exact pay6_at _ j d
    case piece1 => simp at h0; omega

/-- The lower half, past the first block of a sequence, is the block of keys of the point before. -/
theorem k_lower (c : Dev nD) (t : Fin cfg0.N) (h : ¬t.val % 32 = 0) (R : Fin 2048) (d : Fin 128) (j : Fin 1024) (hj : R.val = j.val) :
    (outsAt0 m c t.val t.isLt).2.1 (ix2 R d) = iblk m c 1 ⟨t.val - 1, Nat.lt_of_le_of_lt (Nat.sub_le _ _) t.isLt⟩ (ix3 0 j d) := by
  rw [outsAt0_B m c t h (by omega)]
  frame_out
  canon_tiles x h
  case piece0 => simp at h0; omega
  case piece1 =>
    rw [show x = ix2 j d from funext fun a => Fin.ext (by fin_cases a <;> simp at h0 h1 ⊢ <;> omega), pay4_at]
    refine (View.ld_unit_apply_of _ _ _ _ _ (ix2 ⟨1024 + j.val, by omega⟩ d) (by intro a; fin_cases a <;> simp)).trans ?_
    refine (congrFun (Memref.IsWhole.read_unread _ _) _).trans ?_
    exact k_upper m c ⟨t.val - 1, Nat.lt_of_le_of_lt (Nat.sub_le _ _) t.isLt⟩ _ d j rfl

/-- The same for the transposed values: the upper half is the point's own block, -/
theorem v_upper (c : Dev nD) (t : Fin cfg0.N) (R : Fin 2048) (d : Fin 128) (j : Fin 1024) (hj : R.val = 1024 + j.val) :
    (outsAt0 m c t.val t.isLt).2.2 (ix2 d R) = iblk m c 2 t (ix3 0 j d) := by
  by_cases h : t.val % 32 = 0
  · rw [outsAt0_A m c t h (by omega)]
    frame_out
    canon_tiles x h
    case piece0 =>
      rw [show x = ix2 d j from funext fun a => Fin.ext (by fin_cases a <;> simp at h0 h1 ⊢ <;> omega)]
      exact pay7_at _ j d
    case piece1 => simp at h1; omega
  · rw [outsAt0_B m c t h (by omega)]
    frame_out
    canon_tiles x h
    case piece0 =>
      rw [show x = ix2 d j from funext fun a => Fin.ext (by fin_cases a <;> simp at h0 h1 ⊢ <;> omega)]
      exact pay7_at _ j d
    case piece1 => simp at h1; omega

/-- and the lower half that of the point before. -/
theorem v_lower (c : Dev nD) (t : Fin cfg0.N) (h : ¬t.val % 32 = 0) (R : Fin 2048) (d : Fin 128) (j : Fin 1024) (hj : R.val = j.val) :
    (outsAt0 m c t.val t.isLt).2.2 (ix2 d R) = iblk m c 2 ⟨t.val - 1, Nat.lt_of_le_of_lt (Nat.sub_le _ _) t.isLt⟩ (ix3 0 j d) := by
  rw [outsAt0_B m c t h (by omega)]
  frame_out
  canon_tiles x h
  case piece0 => simp at h1; omega
  case piece1 =>
    rw [show x = ix2 d j from funext fun a => Fin.ext (by fin_cases a <;> simp at h0 h1 ⊢ <;> omega), pay5_at]
    refine (View.ld_unit_apply_of _ _ _ _ _ (ix2 d ⟨1024 + j.val, by omega⟩) (by intro a; fin_cases a <;> simp)).trans ?_
    refine (congrFun (Memref.IsWhole.read_unread _ _) _).trans ?_
    exact v_upper m c ⟨t.val - 1, Nat.lt_of_le_of_lt (Nat.sub_le _ _) t.isLt⟩ _ d j rfl

/-- A row of the key scratch is the key at its position, provided that position is not before the start of the sequence. -/
theorem k_at (c : Dev nD) (t : Fin cfg0.N) (ht : t.val < 256) (R : Fin 2048) (d : Fin 128) (hR : 1024 ≤ t.val % 32 * 1024 + R.val) :
    (outsAt0 m c t.val t.isLt).2.1 (ix2 R d) = m ((c : Thread nD τ).loc main_arg2)
      (ix3 ⟨t.val / 128, by omega⟩ ⟨t.val % 32 * 1024 + R.val - 1024, by omega⟩ ⟨t.val / 32 % 4 * 128 + d.val, by omega⟩) := by
  by_cases h : 1024 ≤ R.val
  · rw [k_upper m c t R d ⟨R.val - 1024, by omega⟩ (by dsimp only; omega), blk_k m c t _ d ht]
    congr 1; congr 1; apply Fin.ext; dsimp only; omega
  · rw [k_lower m c t (by omega) R d ⟨R.val, by omega⟩ rfl, blk_k m c _ _ d (by dsimp only; omega)]
    congr 1; congr 1 <;> apply Fin.ext <;> dsimp only <;> omega

/-- A column of the value scratch is the value at its position, provided that position is not before the start of the sequence. -/
theorem v_at (c : Dev nD) (t : Fin cfg0.N) (ht : t.val < 256) (R : Fin 2048) (d : Fin 128) (hR : 1024 ≤ t.val % 32 * 1024 + R.val) :
    (outsAt0 m c t.val t.isLt).2.2 (ix2 d R) = m ((c : Thread nD τ).loc main_arg4)
      (ix3 ⟨t.val / 128, by omega⟩ ⟨t.val % 32 * 1024 + R.val - 1024, by omega⟩ ⟨t.val / 32 % 4 * 128 + d.val, by omega⟩) := by
  by_cases h : 1024 ≤ R.val
  · rw [v_upper m c t R d ⟨R.val - 1024, by omega⟩ (by dsimp only; omega), blk_v m c t _ d ht]
    congr 1; congr 1; apply Fin.ext; dsimp only; omega
  · rw [v_lower m c t (by omega) R d ⟨R.val, by omega⟩ rfl, blk_v m c _ _ d (by dsimp only; omega)]
    congr 1; congr 1 <;> apply Fin.ext <;> dsimp only <;> omega

/-- The score scales the host prepares: one per query head, spread over the 64 queries of a sub-block. -/
theorem host_c (c : Dev nD) (g : Fin 4) (col : Fin 256) :
    V m c main_v8 (ix3 g 0 col)
      = scale (m ((c : Thread nD τ).loc main_arg1)) (m ((c : Thread nD τ).loc main_arg3)) ⟨g.val * 4 + col.val / 64, by omega⟩ := by
  entry_read
  pointwise
  have e : (⟨(g.val * 4 + col.val / 64) / 4, by omega⟩ : Fin 4) = g := Fin.ext (by dsimp only; omega)
  unfold scale
  rw [e]

/-- The value scales, spread likewise. -/
theorem host_vs (c : Dev nD) (g : Fin 4) (col : Fin 256) :
    V m c main_v10 (ix3 g 0 col) = m ((c : Thread nD τ).loc main_arg5) (ix1 g) := by
  entry_read
  pointwise

/-- A column's scale of the scores, in the body: its query head's scale times `1 / log 2`. -/
theorem c_at (c : Dev nD) (t : Fin cfg0.N) (ht : t.val < 256) (col : Fin 256) :
    k0_pay8 (F := Ideal) (iblk m c 3 t) (ix2 0 col)
      = scale (m ((c : Thread nD τ).loc main_arg1)) (m ((c : Thread nD τ).loc main_arg3)) ⟨t.val / 32 % 4 * 4 + col.val / 64, by omega⟩
        * Softmax.log2e := by
  have e : iblk m c 3 t (ix3 0 0 col) = V m c main_v8 (ix3 ⟨t.val / 32 % 4, by omega⟩ 0 col) := by blk_ext [iblk, idx t]
  have k : Named.named (F := Ideal) (φ := .f32) κ "log2e" 1069066811#32 = Softmax.log2e := rfl
  rw [host_c m c] at e
  pointwise [k0_pay8]
  rw [k, e]

/-- A column's value scale, in the body: that of the key head. -/
theorem vs_at (c : Dev nD) (t : Fin cfg0.N) (ht : t.val < 256) (col : Fin 256) :
    k0_pay9 (F := Ideal) (iblk m c 4 t) (ix2 0 col) = m ((c : Thread nD τ).loc main_arg5) (ix1 ⟨t.val / 32 % 4, by omega⟩) := by
  have e : iblk m c 4 t (ix3 0 0 col) = V m c main_v10 (ix3 ⟨t.val / 32 % 4, by omega⟩ 0 col) := by blk_ext [iblk, idx t]
  rw [host_vs m c] at e
  pointwise [k0_pay9]
  exact e

end Cert.KernelIdeal.Val

end
-- ==== Proof.KernelValue.lean ====
/- The kernel's result is attention over its arguments. -/
module

public import proofs.«01_k».proof.Proof.Point
public import proofs.«01_k».proof.Proof.Scratch

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.Attention

variable (m : (ℓ : Loc nD τ sig) → Buf (Elt Ideal) ℓ)

/-- Attention over the kernel's arguments. -/
abbrev attnOf (c : Dev nD) (b : Fin 2) (s : Fin 32768) (f : Fin 2048) : EReal :=
  attn (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) b s f

/-- What a grid point computes at a query and a column of its block is attention there: its 1088 keys contain every key seen. -/
theorem orow_eq (c : Dev nD) (t : Fin cfg0.N) (ht : t.val < 256) (n : Fin 1024) (f : Fin 512) :
    orow (t.val % 32) (iblk m c 0 t) (outsAt0 m c t.val t.isLt).2.1 (outsAt0 m c t.val t.isLt).2.2
        (k0_pay8 (iblk m c 3 t)) (k0_pay9 (iblk m c 4 t)) n f
      = attnOf m c ⟨t.val / 128, by omega⟩ ⟨t.val % 32 * 1024 + n.val, by omega⟩ ⟨t.val / 32 % 4 * 512 + f.val, by omega⟩ := by
  have hv := visK_iff (t.val % 32) (n.val / 64 * 64)
  have hw := vis_iff (t.val % 32 * 1024 + n.val)
  refine (Softmax.row (fun r : Fin 1088 => visK (t.val % 32) (n.val / 64 * 64) r.val (n.val % 64))
    (fun j : Fin 32768 => vis (t.val % 32 * 1024 + n.val) j.val)
    (fun r => ⟨t.val % 32 * 1024 + (n.val / 64 * 64 + r.val) - 1024, by omega⟩) ?_ ?_ ?_ _ _
    (sco (m ((c : Thread nD τ).loc main_arg0)) (m ((c : Thread nD τ).loc main_arg1)) (m ((c : Thread nD τ).loc main_arg2))
      (m ((c : Thread nD τ).loc main_arg3)) ⟨t.val / 128, by omega⟩ ⟨t.val % 32 * 1024 + n.val, by omega⟩ ⟨t.val / 32 % 4 * 512 + f.val, by omega⟩)
    (fun j => (m ((c : Thread nD τ).loc main_arg4)) (ix3 ⟨t.val / 128, by omega⟩ j ⟨t.val / 32 % 4 * 128 + f.val % 128, by omega⟩)) _ ?_ ?_).trans ?_
  · intro r hr
    rw [hv] at hr
    rw [hw]
    have := r.isLt
    dsimp only
    omega
  · intro r r' hr hr' e
    rw [hv] at hr hr'
    have e := Fin.mk.inj e
    apply Fin.ext
    omega
  · intro j hj
    rw [hw] at hj
    refine ⟨⟨j.val + 1024 - t.val % 32 * 1024 - n.val / 64 * 64, by omega⟩, ?_, ?_⟩
    · rw [hv]; dsimp only; omega
    · apply Fin.ext; dsimp only; omega
  · intro r hr
    rw [hv] at hr
    unfold sco
    refine (congrArg₂ (fun a b : EReal => a * b) (Finset.sum_congr rfl fun d _ => congrArg₂ (fun a b : EReal => a * b)
      (k_at m c t ht ⟨n.val / 64 * 64 + r.val, by omega⟩ d (by dsimp only; omega)) (blk_q m c t n _ ht)) (c_at m c t ht _)).trans ?_
    refine (mul_assoc _ _ _).symm.trans (congrArg (fun a : EReal => a * Softmax.log2e) (congrArg₂ (fun a b : EReal => a * b)
      (Finset.sum_congr rfl fun d _ => (mul_comm _ _).trans (congrArg₂ (fun a b : EReal => a * b) (congrArg _ (ix3_congr rfl rfl ?_))
        (congrArg _ (ix3_congr rfl rfl ?_)))) (congrArg (scale _ _) (Fin.ext ?_)))) <;> dsimp only <;> omega
  · intro r hr
    rw [hv] at hr
    exact v_at m c t ht ⟨n.val / 64 * 64 + r.val, by omega⟩ ⟨f.val % 128, by omega⟩ (by dsimp only; omega)
  · have e1 : (⟨t.val / 32 % 4 * 128 + f.val % 128, by omega⟩ : Fin 512)
        = ⟨(t.val / 32 % 4 * 512 + f.val) / 512 * 128 + (t.val / 32 % 4 * 512 + f.val) % 128, by omega⟩ := Fin.ext (by dsimp only; omega)
    have e2 : (⟨t.val / 32 % 4, by omega⟩ : Fin 4) = ⟨(t.val / 32 % 4 * 512 + f.val) / 512, by omega⟩ := Fin.ext (by dsimp only; omega)
    rw [vs_at m c t ht, e1, e2]
    rfl

/-- The array the kernel writes: attention at every entry. -/
theorem final (c : Dev nD) : (dats m 0 c).arrAt 5 cfg0.N = fun i => attnOf m c (i 0) (i 1) (i 2) := by
  refine (dats m 0 c).arrAt_eq_of_covers 5 _ (by decide +kernel) fun t hf y => ?_
  have ht : t.val < 256 := lt_of_lt_of_eq t.isLt N_0
  blk_simp
  rw [after0_5, block m c t, coord2 t]
  refine (orow_eq m c t ht (y 1) (y 2)).trans ?_
  have y0 : (y 0).val = 0 := Nat.lt_one_iff.mp (y 0).isLt
  have e0 : (⟨t.val / 128, by omega⟩ : Fin 2) = (win0_5.blk t).view.emb y 0 := Fin.ext (by blk_simp [idx t])
  have e1 : (⟨t.val % 32 * 1024 + (y 1).val, by have : (y 1).val < 1024 := (y 1).isLt; omega⟩ : Fin 32768) = (win0_5.blk t).view.emb y 1 :=
    Fin.ext (by blk_simp [idx t])
  have e2 : (⟨t.val / 32 % 4 * 512 + (y 2).val, by have : (y 2).val < 512 := (y 2).isLt; omega⟩ : Fin 2048) = (win0_5.blk t).view.emb y 2 :=
    Fin.ext (by blk_simp [idx t])
  exact congr (congr (congrArg (attnOf m c) e0) e1) e2

end Cert.KernelIdeal.Val

end
-- ==== Proof.Reference.lean ====
/- The reference's result is attention over its arguments. -/
module

public import proofs.«01_k».proof.Proof.Gen.ReferenceIdeal.Value
public import proofs.«01_k».proof.Proof.Attention
public import Idealize.ShloMosaic.Lib.Pipeline.ValueKit
public import Idealize.ShloMosaic.Lib.Pointwise

@[expose] public section

set_option maxRecDepth 16384

noncomputable section

namespace Cert.ReferenceIdeal.Val

open Idealize.ShloMosaic Idealize.ShloMosaic.TcCoe Idealize.SL.Sem
open Idealize.ShloMosaic.Pipeline (Dat)
open Cert.ReferenceIdeal Cert.ReferenceIdeal.Gen Cert.Attention

/-- The values, spread over the query heads of their key head. -/
theorem pay2_at (v : Vec Ideal S2x32768x512 .fp8e4m3) (g : Fin 32) (j : Fin 32768) (d : Fin 128) :
    k0_pay2 (F := Ideal) v (ix3 g j d) = v (ix3 ⟨g.val / 16, by omega⟩ j ⟨g.val / 4 % 4 * 128 + d.val, by omega⟩) := by
  pointwise [k0_pay2]

/-- The mask of the window, read off the two positions as 32-bit words. -/
theorem mask_at (s j : ℕ) (hs : s < 32768) (hj : j < 32768) :
    IntOp.andi (IntOp.cmpi .sge (IntOp.subi (BitVec.ofNat 32 s) (BitVec.ofNat 32 j)) 0#32)
        (IntOp.cmpi .slt (IntOp.subi (BitVec.ofNat 32 s) (BitVec.ofNat 32 j)) 1000#32)
      = BitVec.ofBool (decide (vis s j)) := by
  have e : BitVec.ofNat 32 s - BitVec.ofNat 32 j = BitVec.ofInt 32 ((s : ℤ) - j) := by
    apply BitVec.eq_of_toNat_eq
    simp only [BitVec.toNat_sub, BitVec.toNat_ofNat, BitVec.toNat_ofInt]
    omega
  have t : (BitVec.ofInt 32 ((s : ℤ) - j)).toInt = (s : ℤ) - j := by
    rw [BitVec.toInt_ofInt, Int.bmod_eq_of_le (by omega) (by omega)]
  show BitVec.ofBool (BitVec.sle 0#32 (BitVec.ofNat 32 s - BitVec.ofNat 32 j)) &&& BitVec.ofBool (BitVec.slt (BitVec.ofNat 32 s - BitVec.ofNat 32 j) 1000#32) = _
  have h := vis_iff s j
  rw [e, BitVec.sle_eq_decide, BitVec.slt_eq_decide, t]
  by_cases h1 : j ≤ s
  · by_cases h2 : s < j + 1000
    · rw [decide_eq_true (show (0#32).toInt ≤ (s : ℤ) - j by simp; omega), decide_eq_true (show (s : ℤ) - j < (1000#32).toInt by simp; omega),
        decide_eq_true (h.2 ⟨h1, h2⟩)]
      rfl
    · rw [decide_eq_false (show ¬(s : ℤ) - j < (1000#32).toInt by simp; omega), decide_eq_false (fun hv => h2 (h.1 hv).2)]
      simp
  · rw [decide_eq_false (show ¬(0#32).toInt ≤ (s : ℤ) - j by simp; omega), decide_eq_false (fun hv => h1 (h.1 hv).1)]
    simp

/-- The masked score of a query head's row. -/
def rmsk (x : Vec Ideal S2x32768x2048 .fp8e4m3) (k : Vec Ideal S2x32768x512 .fp8e4m3) (c : Vec Ideal S32x1x1 .f32)
    (g : Fin 32) (s j : Fin 32768) : EReal :=
  if vis s.val j.val then
    (∑ d : Fin 128, (x (ix3 ⟨g.val / 16, by omega⟩ s ⟨g.val % 16 * 128 + d.val, by omega⟩) : EReal)
        * k (ix3 ⟨g.val / 16, by omega⟩ j ⟨g.val / 4 % 4 * 128 + d.val, by omega⟩)) * c (ix3 g 0 0)
  else ⊥

/-- The exponentials of a row. -/
theorem pay3_at (x : Vec Ideal S2x32768x2048 .fp8e4m3) (k : Vec Ideal S2x32768x512 .fp8e4m3) (c : Vec Ideal S32x1x1 .f32)
    (g : Fin 32) (s j : Fin 32768) :
    k0_pay3 (F := Ideal) x k c (ix3 g s j) = Ideal.exp (rmsk x k c g s j - Finset.univ.sup fun j => rmsk x k c g s j) := by
  have hm : ∀ j : Fin 32768, IntOp.andi (IntOp.cmpi .sge (IntOp.subi (BitVec.ofNat 32 s.val) (BitVec.ofNat 32 j.val)) 0#32)
        (IntOp.cmpi .slt (IntOp.subi (BitVec.ofNat 32 s.val) (BitVec.ofNat 32 j.val)) 1000#32)
      = BitVec.ofBool (decide (vis s.val j.val)) := fun j => mask_at s.val j.val s.isLt j.isLt
  pointwise [k0_pay3]
  simp only [hm, WordCmp.select_decide, neg_inf]
  rfl

/-- The sum of the exponentials of a row. -/
theorem pay4_at (x : Vec Ideal S2x32768x2048 .fp8e4m3) (k : Vec Ideal S2x32768x512 .fp8e4m3) (c : Vec Ideal S32x1x1 .f32)
    (g : Fin 32) (s : Fin 32768) :
    k0_pay4 (F := Ideal) x k c (ix2 g s) = ∑ j : Fin 32768, Ideal.exp (rmsk x k c g s j - Finset.univ.sup fun j => rmsk x k c g s j) := by
  pointwise [k0_pay4]
  exact Finset.sum_congr rfl fun j _ => pay3_at x k c g s j

/-- The normalized weights against the values, and the heads put back into columns. -/
theorem pay1_at (v : FVec Ideal S32x32768x128 .bf16) (e : FVec Ideal S32x32768x32768 .f32) (l : FVec Ideal S32x32768 .f32) (vs : Vec Ideal S32x1x1 .f32)
    (b : Fin 2) (s : Fin 32768) (f : Fin 2048) (g : Fin 32) (hg : g.val = b.val * 16 + f.val / 128) :
    k0_pay1 (F := Ideal) v e l vs (ix3 b s f)
      = ((∑ j : Fin 32768, e (ix3 g s j) * Ideal.div 1 (l (ix2 g s)) * v (ix3 g j ⟨f.val % 128, by omega⟩)) * vs (ix3 g 0 0) : EReal) := by
  obtain ⟨n, hn⟩ := g
  dsimp only at hg
  subst hg
  pointwise [k0_pay1]

/-- The reference's result over its operands is attention, when its two scale operands hold the heads' scales. -/
theorem ref_at (x : Vec Ideal S2x32768x2048 .fp8e4m3) (k v : Vec Ideal S2x32768x512 .fp8e4m3) (c vs : Vec Ideal S32x1x1 .f32)
    (aqs : FVec Ideal S16 .f32) (aks avs : FVec Ideal S4 .f32)
    (hc : ∀ g : Fin 32, c (ix3 g 0 0) = scale aqs aks ⟨g.val % 16, by omega⟩)
    (hvs : ∀ g : Fin 32, vs (ix3 g 0 0) = avs (ix1 ⟨g.val / 4 % 4, by omega⟩))
    (b : Fin 2) (s : Fin 32768) (f : Fin 2048) :
    k0_pay1 (F := Ideal) (k0_pay2 v) (k0_pay3 x k c) (k0_pay4 x k c) vs (ix3 b s f) = attn x aqs k aks v avs b s f := by
  have h : (b.val * 16 + f.val / 128) < 32 := by omega
  have hS : ∀ j, rmsk x k c ⟨b.val * 16 + f.val / 128, h⟩ s j = msk x aqs k aks b s f j := by
    intro j
    unfold rmsk msk sco
    rw [hc]
    refine if_congr Iff.rfl (congrArg₂ (fun a b : EReal => a * b) (Finset.sum_congr rfl fun d _ => congrArg₂ (fun a b : EReal => a * b)
      (congrArg _ (ix3_congr ?_ rfl ?_)) (congrArg _ (ix3_congr ?_ rfl ?_))) (congrArg (scale _ _) (Fin.ext ?_))) rfl <;> dsimp only <;> omega
  rw [pay1_at _ _ _ _ b s f ⟨b.val * 16 + f.val / 128, h⟩ rfl]
  simp only [pay2_at, pay3_at, pay4_at, hS, hvs]
  unfold attn
  refine congrArg₂ (fun a b : EReal => a * b) (Finset.sum_congr rfl fun j _ => congrArg₂ (fun a b : EReal => a * b) rfl
    (congrArg _ (ix3_congr ?_ rfl ?_))) (congrArg (fun i => avs (ix1 i)) (Fin.ext ?_)) <;> dsimp only <;> omega

variable (m : (ℓ : Loc nD τ sig) → Buf (Elt Ideal) ℓ)

/-- The reference's operand of score scales holds each query head's scale, for either batch. -/
theorem host_c (c : Dev nD) (g : Fin 32) :
    V m c main_v8 (ix3 g 0 0) = scale (m ((c : Thread nD τ).loc main_arg1)) (m ((c : Thread nD τ).loc main_arg3)) ⟨g.val % 16, by omega⟩ := by
  have e : (⟨g.val % 16 / 4 * 4 + g.val % 16 % 4, by omega⟩ : Fin 16) = ⟨g.val % 16, by omega⟩ := Fin.ext (by dsimp only; omega)
  entry_read
  pointwise
  exact congrArg₂ (fun a b : EReal => a * b) (congrArg₂ (fun a b : EReal => a * b)
    (congrArg (fun i : Fin 16 => (m ((c : Thread nD τ).loc main_arg1) : FVec Ideal S16 .f32) (ix1 i)) e) rfl) rfl

/-- The reference's operand of value scales holds the scale of each query head's key head. -/
theorem host_vs (c : Dev nD) (g : Fin 32) :
    V m c main_v11 (ix3 g 0 0) = m ((c : Thread nD τ).loc main_arg5) (ix1 ⟨g.val / 4 % 4, by omega⟩) := by
  entry_read
  pointwise

/-- Attention over the reference's arguments. -/
abbrev attnOf (c : Dev nD) (b : Fin 2) (s : Fin 32768) (f : Fin 2048) : EReal :=
  attn (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) b s f

/-- The one block of the queries is the whole array. -/
theorem blk_x (c : Dev nD) : iblk m c 0 t0_0 = m ((c : Thread nD τ).loc main_arg0) := by
  have h : ∀ a, win0_0.index t0_0 a = 0 := by decide +kernel
  rw [← V_main_arg0 m c]
  funext y
  blk_ext [iblk, h]

/-- The one block of the keys is the whole array. -/
theorem blk_k (c : Dev nD) : iblk m c 1 t0_0 = m ((c : Thread nD τ).loc main_arg2) := by
  have h : ∀ a, win0_1.index t0_0 a = 0 := by decide +kernel
  rw [← V_main_arg2 m c]
  funext y
  blk_ext [iblk, h]

/-- The one block of the values is the whole array. -/
theorem blk_v (c : Dev nD) : iblk m c 2 t0_0 = m ((c : Thread nD τ).loc main_arg4) := by
  have h : ∀ a, win0_2.index t0_0 a = 0 := by decide +kernel
  rw [← V_main_arg4 m c]
  funext y
  blk_ext [iblk, h]

/-- The one block of the score scales is the whole array. -/
theorem blk_c (c : Dev nD) : iblk m c 3 t0_0 = V m c main_v8 := by
  have h : ∀ a, win0_3.index t0_0 a = 0 := by decide +kernel
  funext y
  blk_ext [iblk, h]

/-- The one block of the value scales is the whole array. -/
theorem blk_vs (c : Dev nD) : iblk m c 4 t0_0 = V m c main_v11 := by
  have h : ∀ a, win0_4.index t0_0 a = 0 := by decide +kernel
  funext y
  blk_ext [iblk, h]

/-- The array the reference writes: attention at every entry. -/
theorem final (c : Dev nD) : (dats m 0 c).arrAt 5 cfg0.N = fun i => attnOf m c (i 0) (i 1) (i 2) := by
  refine (dats m 0 c).arrAt_eq_of_after_last 5 t0_0 (by decide +kernel) _ fun j => ?_
  blk_simp
  rw [after0_5]
  frame_out
  rw [show j = ix3 (j 0) (j 1) (j 2) from funext fun a => by fin_cases a <;> rfl]
  rw [blk_x, blk_k, blk_v]
  exact ref_at _ _ _ _ _ _ _ _ (fun g => (congrFun (blk_c m c) _).trans (host_c m c g)) (fun g => (congrFun (blk_vs m c) _).trans (host_vs m c g)) _ _ _

end Cert.ReferenceIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.KernelValue
public import proofs.«01_k».proof.Proof.Reference
public import Idealize.ShloMosaic.Adequacy
public import Idealize.ShloMosaic.Init

@[expose] public section

noncomputable section

namespace Cert.Proof

open Idealize.ShloMosaic Idealize.SL.Sem

/-- The kernel runs to the end and leaves its arguments as they were. -/
theorem frame_kernel : Cert.quiescent_Kernel (hKernel := Cert.Kernel.Gen.facts) :=
  fun m g _ => Cert.Kernel.Gen.frame m g

/-- The idealized kernel runs to the end and leaves its arguments as they were. -/
theorem frame_kernelIdeal : Cert.quiescent_KernelIdeal (hKernelIdeal := Cert.KernelIdeal.Gen.facts) :=
  fun m g _ => Cert.KernelIdeal.Gen.frame m g

/-- The reference runs to the end and leaves its arguments as they were. -/
theorem frame_reference : Cert.quiescent_ReferenceIdeal (hReferenceIdeal := Cert.ReferenceIdeal.Gen.facts) :=
  fun m g _ => Cert.ReferenceIdeal.Gen.frame m g

/-- The one rewritten constant: `1.4426950216293335` is read as the number `1 / log 2` it rounds. -/
theorem preserves : Cert.preserves_Kernel_KernelIdeal :=
  IdealRules.named_const.statement Cert.KernelIdeal.κ "log2e" .f32 0x3FB8AA3B#32 (((Real.log 2)⁻¹ : ℝ) : EReal) rfl

/-- The idealized kernel and the reference, started with the same arguments, both write sliding-window attention of those arguments. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c i => Cert.KernelIdeal.Val.attnOf m c (i 0) (i 1) (i 2), ?_, ?_⟩
  · exact (θ_run _ _ _).mono (fun r h c => ⟨(h c).1.trans (Cert.KernelIdeal.Val.final m c), (h c).2⟩) (Cert.KernelIdeal.Value.run_blocks m g)
  · refine (θ_run _ _ _).mono (fun r h c => ⟨(h c).1.trans ((Cert.ReferenceIdeal.Val.final m' c).trans ?_), (h c).2⟩)
      (Cert.ReferenceIdeal.Value.run_blocks m' g')
    obtain ⟨h0, h1, h2, h3, h4, h5⟩ := hargs c
    funext i
    unfold Cert.ReferenceIdeal.Val.attnOf
    rw [h0, h1, h2, h3, h4, h5]

/-- All the claims of the certificate. -/
theorem claim : Cert.Claim :=
  ⟨Cert.Kernel.Gen.facts, Cert.KernelIdeal.Gen.facts, Cert.ReferenceIdeal.Gen.facts,
    frame_kernel, frame_kernelIdeal, frame_reference, preserves, algebraic⟩

end Cert.Proof

end
